-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x2048x3 : Shape := ⟨3, ![16, 2048, 3]⟩
abbrev S_ : Shape := ⟨0, ![]⟩

class Facts : Prop where
  bcast_S_S16x2048x3 : S_.BroadcastsInDim S16x2048x3 (![] : Fin 0 → Fin S16x2048x3.rank)
  reducesTo_S16x2048x3_S_d0_1_2 : S16x2048x3.ReducesTo [0, 1, 2] S_
  h_S_ : 0 < S_.numel

variable [Facts]

def fn {F : FTy → Type} [FloatOps F] (main_arg0 : FVec F S16x2048x3 .f32) : IVec S_ 1 :=
  let main_v0 : FVec F S16x2048x3 .f32 := Host.absf main_arg0
  let main_cst : FVec F S_ .f32 := constant S_ .f32 0x7F800000#32
  let main_v1 : FVec F S16x2048x3 .f32 := broadcastInDim S16x2048x3 ![] bcast_S_S16x2048x3 main_cst
  let main_v2 : IVec S16x2048x3 1 := cmpf .olt main_v0 main_v1
  let main_c : IVec S_ 1 := constantI S_ 1 1#1
  let main_v3 : IVec S_ 1 := (fun x v => Host.reduce IntOp.andi x v reducesTo_S16x2048x3_S_d0_1_2 h_S_) main_v2 main_c
  main_v3
-- ==== Kernel.lean ====
abbrev S16x2048x3 : Shape := ⟨3, ![16, 2048, 3]⟩
abbrev S16x3x2048 : Shape := ⟨3, ![16, 3, 2048]⟩
abbrev S16x2048x1 : Shape := ⟨3, ![16, 2048, 1]⟩
abbrev S16x2048 : Shape := ⟨2, ![16, 2048]⟩
abbrev S_ : Shape := ⟨0, ![]⟩
abbrev S16 : Shape := ⟨1, ![16]⟩
abbrev S1x512x3 : Shape := ⟨3, ![1, 512, 3]⟩
abbrev S1x3x2048 : Shape := ⟨3, ![1, 3, 2048]⟩
abbrev S1x512x1 : Shape := ⟨3, ![1, 512, 1]⟩
abbrev S512x3 : Shape := ⟨2, ![512, 3]⟩
abbrev S3x2048 : Shape := ⟨2, ![3, 2048]⟩
abbrev S512x2048 : Shape := ⟨2, ![512, 2048]⟩
abbrev S512x1 : Shape := ⟨2, ![512, 1]⟩
abbrev S1x2048 : Shape := ⟨2, ![1, 2048]⟩
abbrev S512 : Shape := ⟨1, ![512]⟩

abbrev nBuf : Space → Nat
  | .hbm => 9
  | .vmem => 6
  | .smem => 0
  | _ => 0

abbrev bufTy : (tb : Table) → Fin (tcTables nBuf tb) → BufTy
  | .hbm, ⟨0, _⟩ => ⟨S16x2048x3, .f32⟩
  | .hbm, ⟨1, _⟩ => ⟨S16x3x2048, .f32⟩
  | .hbm, ⟨2, _⟩ => ⟨S16x2048x1, .f32⟩
  | .hbm, ⟨3, _⟩ => ⟨S16x2048, .f32⟩
  | .hbm, ⟨4, _⟩ => ⟨S_, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .local _ .vmem, ⟨0, _⟩ => ⟨S1x512x3, .f32⟩
  | .local _ .vmem, ⟨1, _⟩ => ⟨S1x512x3, .f32⟩
  | .local _ .vmem, ⟨2, _⟩ => ⟨S1x3x2048, .f32⟩
  | .local _ .vmem, ⟨3, _⟩ => ⟨S1x3x2048, .f32⟩
  | .local _ .vmem, ⟨4, _⟩ => ⟨S1x512x1, .f32⟩
  | .local _ .vmem, ⟨5, _⟩ => ⟨S1x512x1, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_cst : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S16x2048x3 : Shape := ⟨3, ![16, 2048, 3]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S16x2048x6 : Shape := ⟨3, ![16, 2048, 6]⟩
abbrev S16x2048x5 : Shape := ⟨3, ![16, 2048, 5]⟩
abbrev S16x2048x5x1 : Shape := ⟨4, ![16, 2048, 5, 1]⟩
abbrev S16x2048x5x3 : Shape := ⟨4, ![16, 2048, 5, 3]⟩
abbrev S16x2048x1x3 : Shape := ⟨4, ![16, 2048, 1, 3]⟩
abbrev S16 : Shape := ⟨1, ![16]⟩

abbrev nBuf : Space → Nat
  | .hbm => 52
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16x2048x2048, .f32⟩
  | .hbm, ⟨2, _⟩ => ⟨S_, .f32⟩
  | .hbm, ⟨3, _⟩ => ⟨S16x2048x2048, .f32⟩
  | .hbm, ⟨4, _⟩ => ⟨S16x2048x2048, .f32⟩
  | .hbm, ⟨5, _⟩ => ⟨S16x2048x3, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S16x2048x2048, .f32⟩
  | .hbm, ⟨10, _⟩ => ⟨S16x2048x2048, .f32⟩
  | .hbm, ⟨11, _⟩ => ⟨S16x1x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S16x2048x6, .f32⟩
  | .hbm, ⟨16, _⟩ => ⟨S16x2048x6, .i32⟩
  | .hbm, ⟨17, _⟩ => ⟨S16x2048x5, .i32⟩
  | .hbm, ⟨18, _⟩ => ⟨S_, .i32⟩
  | .hbm, ⟨19, _⟩ => ⟨S16x2048x5, .i32⟩
  | .hbm, ⟨20, _⟩ => ⟨S16x2048x5, .i1⟩
  | .hbm, ⟨21, _⟩ => ⟨S_, .i32⟩
  | .hbm, ⟨22, _⟩ => ⟨S16x2048x5, .i32⟩
  | .hbm, ⟨23, _⟩ => ⟨S16x2048x5, .i32⟩
  | .hbm, ⟨24, _⟩ => ⟨S16x2048x5, .i32⟩
  | .hbm, ⟨25, _⟩ => ⟨S16x2048x5x1, .i32⟩
  | .hbm, ⟨26, _⟩ => ⟨S16x2048x5x3, .f32⟩
  | .hbm, ⟨27, _⟩ => ⟨S16x2048x1x3, .f32⟩
  | .hbm, ⟨28, _⟩ => ⟨S16x2048x5x3, .f32⟩
  | .hbm, ⟨29, _⟩ => ⟨S16x2048x5x3, .f32⟩
  | .hbm, ⟨30, _⟩ => ⟨S16x2048x5x3, .f32⟩
  | .hbm, ⟨31, _⟩ => ⟨S_, .f32⟩
  | .hbm, ⟨32, _⟩ => ⟨S16x2048x5, .f32⟩
  | .hbm, ⟨33, _⟩ => ⟨S_, .f32⟩
  | .hbm, ⟨34, _⟩ => ⟨S16x2048x5, .f32⟩
  | .hbm, ⟨35, _⟩ => ⟨S16x2048x5, .f32⟩
  | .hbm, ⟨36, _⟩ => ⟨S16x2048x5, .f32⟩
  | .hbm, ⟨37, _⟩ => ⟨S_, .f32⟩
  | .hbm, ⟨38, _⟩ => ⟨S16x2048x5, .f32⟩
  | .hbm, ⟨39, _⟩ => ⟨S16x2048x5, .f32⟩
  | .hbm, ⟨40, _⟩ => ⟨S16x2048x5, .f32⟩
  | .hbm, ⟨41, _⟩ => ⟨S16x2048x5, .f32⟩
  | .hbm, ⟨42, _⟩ => ⟨S16x2048x5, .f32⟩
  | .hbm, ⟨43, _⟩ => ⟨S_, .f32⟩
  | .hbm, ⟨44, _⟩ => ⟨S16x2048x5, .f32⟩
  | .hbm, ⟨45, _⟩ => ⟨S16x2048x5, .f32⟩
  | .hbm, ⟨46, _⟩ => ⟨S16x2048x5, .f32⟩
  | .hbm, ⟨47, _⟩ => ⟨S_, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_values : Ref sig .tc := ⟨.hbm, 15, rfl⟩
abbrev main_indices : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.Nearest.lean ====
/-
  CHOOSING THE NEAREST NEIGHBOURS, as mathematics: a finite row of extended reals, the repeated choice "the least position
  attaining the minimum, then raise that entry to +∞", and the stable sort that `top_k` is. Both pick the same positions
  as long as every entry of the row is below +∞. Nothing here mentions a program.
-/
module

public import Idealize.ShloMosaic.Lib.SortFacts
public import Idealize.ShloMosaic.Lib.SortPrefix
public import Mathlib.Data.EReal.Basic

@[expose] public section

noncomputable section

namespace Cert.Nearest

open Idealize.ShloMosaic

variable {n : Nat} [NeZero n]

/-- `j` is the first position at which the row `M` takes its minimum. -/
def IsFirstMin (M : Fin n → EReal) (j : Fin n) : Prop :=
  (∀ p, M j ≤ M p) ∧ ∀ p, p < j → M j < M p

/-- Every row of at least one entry has such a position: among the positions of the minimum, the least. -/
theorem exists_isFirstMin (M : Fin n → EReal) : ∃ j, IsFirstMin M j := by
  classical
  obtain ⟨q, -, hq'⟩ := Finset.exists_min_image Finset.univ M ⟨0, Finset.mem_univ _⟩
  have hq : ∀ p, M q ≤ M p := fun p => hq' p (Finset.mem_univ p)
  let S : Finset (Fin n) := Finset.univ.filter fun j => M j = M q
  have hS : S.Nonempty := ⟨q, by simp [S]⟩
  have hmem : M (S.min' hS) = M q := by
    have h := S.min'_mem hS
    simpa [S] using h
  refine ⟨S.min' hS, fun p => hmem.le.trans (hq p), fun p hp => ?_⟩
  rcases (hq p).lt_or_eq with h | h
  · exact hmem.trans_lt h
  · exact absurd (S.min'_le p (by simp [S, h])) (not_le.mpr hp)

/-- The first position of the minimum. -/
def firstMin (M : Fin n → EReal) : Fin n := (exists_isFirstMin M).choose

theorem isFirstMin_firstMin (M : Fin n → EReal) : IsFirstMin M (firstMin M) := (exists_isFirstMin M).choose_spec

/-- There is only one such position. -/
theorem IsFirstMin.eq_firstMin {M : Fin n → EReal} {j : Fin n} (h : IsFirstMin M j) : j = firstMin M := by
  have h' := isFirstMin_firstMin M
  rcases lt_trichotomy j (firstMin M) with hlt | heq | hgt
  · exact absurd (h.1 (firstMin M)) (not_le.mpr (h'.2 j hlt))
  · exact heq
  · exact absurd (h'.1 j) (not_le.mpr (h.2 _ hgt))

/-- The minimum over the row, started from +∞, is the entry at the first position of the minimum. -/
theorem fold_min_eq (M : Fin n → EReal) : Finset.univ.fold min ⊤ M = M (firstMin M) :=
  le_antisymm (Finset.fold_min_le _ |>.mpr (Or.inr ⟨firstMin M, Finset.mem_univ _, le_refl _⟩))
    (Finset.le_fold_min _ |>.mpr ⟨le_top, fun p _ => (isFirstMin_firstMin M).1 p⟩)

/-- The least number among the positions of the minimum, every other position counting as `n`, is the first of them. -/
theorem fold_min_position_eq (M : Fin n → EReal) :
    Finset.univ.fold min ⊤ (fun l : Fin n => if M l = M (firstMin M) then (((l : Nat) : ℝ) : EReal) else ((n : ℝ) : EReal))
      = (((firstMin M : Nat) : ℝ) : EReal) := by
  refine le_antisymm (Finset.fold_min_le _ |>.mpr (Or.inr ⟨firstMin M, Finset.mem_univ _, by rw [if_pos rfl]⟩))
    (Finset.le_fold_min _ |>.mpr ⟨le_top, fun p _ => ?_⟩)
  split
  · rename_i h
    have hle : firstMin M ≤ p := not_lt.mp fun hlt => absurd h ((isFirstMin_firstMin M).2 p hlt).ne'
    exact EReal.coe_le_coe_iff.mpr (Nat.cast_le.mpr hle)
  · exact EReal.coe_le_coe_iff.mpr (Nat.cast_le.mpr (firstMin M).isLt.le)

/-- Position numbers are told apart as extended reals. -/
theorem position_eq_iff (l j : Fin n) : (((l : Nat) : ℝ) : EReal) = (((j : Nat) : ℝ) : EReal) ↔ l = j := by
  rw [EReal.coe_eq_coe_iff, Nat.cast_inj, Fin.ext_iff]

/-- The row with its chosen entry raised to +∞, so that the next choice passes it by. -/
def mask (M : Fin n → EReal) : Fin n → EReal := Function.update M (firstMin M) ⊤

/-- The position chosen in round `r`, counting from zero. -/
def pick (M : Fin n → EReal) (r : Nat) : Fin n := firstMin (mask^[r] M)

/-- After `r` rounds the positions chosen so far hold +∞ and every other one its own entry. -/
theorem mask_iterate_apply (M : Fin n → EReal) (r : Nat) (j : Fin n) :
    ((∃ s < r, pick M s = j) → (mask^[r] M) j = ⊤) ∧ ((∀ s < r, pick M s ≠ j) → (mask^[r] M) j = M j) := by
  induction r with
  | zero => exact ⟨fun ⟨s, hs, _⟩ => absurd hs (Nat.not_lt_zero s), fun _ => rfl⟩
  | succ r ih =>
    rw [Function.iterate_succ_apply']
    by_cases hj : j = pick M r
    · subst hj
      exact ⟨fun _ => Function.update_self .., fun h => absurd rfl (h r (Nat.lt_succ_self r))⟩
    · have hupd : mask (mask^[r] M) j = (mask^[r] M) j := Function.update_of_ne hj ..
      rw [hupd]
      refine ⟨fun ⟨s, hs, he⟩ => ih.1 ⟨s, ?_, he⟩, fun h => ih.2 fun s hs => h s (Nat.lt_succ_of_lt hs)⟩
      rcases Nat.lt_succ_iff_lt_or_eq.mp hs with h | h
      · exact h
      · exact absurd (h ▸ he).symm hj

variable {M : Fin n → EReal} (hM : ∀ j, M j < ⊤)
include hM

/-- While fewer than `n` positions are chosen, the next choice is a new one: some entry is still below +∞. -/
theorem pick_ne_of_lt {r s : Nat} (hr : r < n) (hs : s < r) : pick M s ≠ pick M r := by
  classical
  intro he
  obtain ⟨j, hj⟩ : ∃ j : Fin n, j ∉ (Finset.range r).image (pick M) := by
    by_contra hall
    push Not at hall
    have hcard : (Finset.univ : Finset (Fin n)).card ≤ ((Finset.range r).image (pick M)).card :=
      Finset.card_le_card fun j _ => hall j
    have := hcard.trans Finset.card_image_le
    simp at this
    omega
  have hj' : ∀ s < r, pick M s ≠ j := fun s hs he => hj (Finset.mem_image.mpr ⟨s, Finset.mem_range.mpr hs, he⟩)
  have htop : (mask^[r] M) (pick M r) = ⊤ := (mask_iterate_apply M r _).1 ⟨s, hs, he⟩
  have hle : (mask^[r] M) (pick M r) ≤ (mask^[r] M) j := (isFirstMin_firstMin (mask^[r] M)).1 j
  rw [htop, (mask_iterate_apply M r j).2 hj'] at hle
  exact absurd (hM j) (not_lt.mpr hle)

/-- The choice of round `r` comes, by entry and then by position, no later than any position not chosen before. -/
theorem pick_first {r : Nat} (hr : r < n) (p : Fin n) (hp : ∀ s < r, pick M s ≠ p) :
    M (pick M r) ≤ M p ∧ (p < pick M r → M (pick M r) < M p) := by
  have h := isFirstMin_firstMin (mask^[r] M)
  have e : (mask^[r] M) (pick M r) = M (pick M r) := (mask_iterate_apply M r _).2 fun s hs => pick_ne_of_lt hM hr hs
  have e' : (mask^[r] M) p = M p := (mask_iterate_apply M r p).2 hp
  refine ⟨e ▸ e' ▸ h.1 p, fun hlt => ?_⟩
  have := h.2 p hlt
  change (mask^[r] M) (pick M r) < (mask^[r] M) p at this
  rwa [e, e'] at this

omit hM [NeZero n] in
/-- A stable sort of an increasing list of positions by their entries is the sort by entry and then by position. -/
theorem stableSort_eq_of_increasing (M : Fin n → EReal) (l : List (Fin n)) (hl : l.Pairwise (· < ·)) :
    stableSort (fun p q => decide (M p < M q)) l
      = stableSort (fun p q => decide (M p < M q) || (decide (M p = M q) && decide (p < q))) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [not_lt.mpr hab.le]

/-- The stable sort of all positions by entry begins with the repeated choices, in order. -/
theorem sortedFrom_eq_pick {k : Nat} (hk : k ≤ n) (i : Fin k) (before : Fin n → Fin n → Bool)
    (hb : ∀ p q, before p q = true ↔ M p < M q) : sortedFrom before (i.castLE hk) = pick M i := by
  classical
  obtain rfl : before = fun p q => decide (M p < M q) := by
    funext p q
    exact Bool.eq_iff_iff.mpr ((hb p q).trans (by simp))
  have hB := StrictTotalBefore.of_key_then_position (fun a b : EReal => decide (a < b)) M (fun a => by simp)
    (fun a b c h h' => by simp only [decide_eq_true_eq] at h h' ⊢; exact h.trans h')
    (fun a b => by simp only [decide_eq_true_eq]; exact lt_trichotomy a b)
  have hsame : sortedFrom (fun p q => decide (M p < M q)) (i.castLE hk)
      = sortedFrom (fun p q => decide (M p < M q) || (decide (M p = M q) && decide (p < q))) (i.castLE hk) := by
    unfold sortedFrom
    exact List.get_of_eq (stableSort_eq_of_increasing M (List.finRange n) (List.pairwise_lt_finRange n)) _
  have notBefore : ∀ (a p : Fin n), M a ≤ M p ∧ (p < a → M a < M p) →
      (decide (M p < M a) || (decide (M p = M a) && decide (p < a))) = false := by
    intro a p h
    simp only [Bool.or_eq_false_iff, Bool.and_eq_false_iff, decide_eq_false_iff_not, not_lt]
    refine ⟨h.1, ?_⟩
    by_cases hpa : p < a
    · exact Or.inl (h.2 hpa).ne'
    · exact Or.inr (not_lt.mp hpa)
  rw [hsame]
  refine hB.sortedFrom_eq_of_prefix hk (fun i : Fin k => pick M i) ?_ ?_ ?_ i
  · intro i j hij
    rcases lt_trichotomy (i : Nat) (j : Nat) with h | h | h
    · exact absurd hij (pick_ne_of_lt hM (j.isLt.trans_le hk) h)
    · exact Fin.ext h
    · exact absurd hij.symm (pick_ne_of_lt hM (i.isLt.trans_le hk) h)
  · exact fun i j hij => notBefore _ _ (pick_first hM (i.isLt.trans_le hk) _ fun s hs =>
      pick_ne_of_lt hM (j.isLt.trans_le hk) (hs.trans hij))
  · exact fun i p hp => notBefore _ _ (pick_first hM (i.isLt.trans_le hk) p fun s hs =>
      hp ⟨s, hs.trans i.isLt⟩)

end Cert.Nearest

end
-- ==== Proof.Rounds.lean ====
/-
  THE KERNEL'S SELECTION ROUNDS READ AT A ROW. One round takes a (512, 2048) array of distances and marks, in each row, the
  first position of the minimum; the next round works on the array with that position at +∞; the squared distance at the
  marked position is taken by a masked sum over the row. Each step is one small definition over the printed operations,
  and one lemma reads it at an index in the words of `Nearest.lean`.
-/
module

public import proofs.«01_k».proof.Proof.Gen.KernelIdeal.Frame
public import proofs.«01_k».proof.Proof.Nearest
public import Idealize.ShloMosaic.Lib.Pointwise

@[expose] public section

set_option maxRecDepth 16384

noncomputable section

namespace Cert.KernelIdeal.Rounds

open Idealize.ShloMosaic Cert.KernelIdeal Cert.KernelIdeal.Gen Cert.Nearest

/-- Row `r` of a (512, 2048) array. -/
def row (M : FVec Ideal S512x2048 .f32) (r : Fin 512) : Fin 2048 → EReal := fun l => M (ix2 r l)

/-- The minimum of each row, spread back over the row. -/
def rowMin (M : FVec Ideal S512x2048 .f32) : FVec Ideal S512x2048 .f32 :=
  broadcastTo S512x2048 (shapeCast S512x1 (multiReduction .minimumf [1] S512 M 0x7F800000#32 reduces_S512x2048_S512 (.inl rfl) rfl)
    shapeCasts_S512_S512x1) broadcasts_S512x1_S512x2048

/-- The mark of each row's first minimum: the position numbers where the row takes its minimum, 2048 elsewhere, and the
    least of them compared with the position numbers. -/
def marked (M : FVec Ideal S512x2048 .f32) : IVec S512x2048 1 :=
  cmpf .oeq (k0_pay6 (F := Ideal)) (rowMin (select (cmpf .oeq M (rowMin M)) (k0_pay6 (F := Ideal))
    (broadcast S512x2048 (Scalar.ofBits .f32 0x45000000#32))))

/-- The array with the marked positions at +∞. -/
def masked (M : FVec Ideal S512x2048 .f32) : FVec Ideal S512x2048 .f32 :=
  select (marked M) (broadcast S512x2048 (Scalar.ofBits .f32 0x7F800000#32)) M

/-- The entries of `D` at the marked positions, one a row, by a sum over the row. -/
def taken (D M : FVec Ideal S512x2048 .f32) : FVec Ideal S512x1 .f32 :=
  shapeCast S512x1 (multiReduction .add [1] S512 (select (marked M) D (broadcast S512x2048 (Scalar.ofBits .f32 0x00000000#32)))
    0x00000000#32 reduces_S512x2048_S512 (.inl rfl) rfl) shapeCasts_S512_S512x1

/-- The constant +∞. -/
theorem ofBits_top : Ideal.ofBits .f32 0x7F800000#32 = ⊤ := by simp [Ideal.ofBits, Ideal.ieee]

/-- The constant 2048, the length of a row. -/
theorem ofBits_2048 : Ideal.ofBits .f32 0x45000000#32 = (((2048 : Nat) : ℝ) : EReal) := by
  simp [Ideal.ofBits, Ideal.ieee, -EReal.coe_mul]; norm_num

/-- The spread minimum at an index is the row's entry at its first minimum. -/
theorem rowMin_apply (M : FVec Ideal S512x2048 .f32) (r : Fin 512) (l : Fin 2048) :
    rowMin M (ix2 r l) = row M r (firstMin (row M r)) := by
  rw [← fold_min_eq (row M r), ← ofBits_top]
  pointwise [rowMin]
  rfl

/-- The position numbers, as numbers. -/
theorem pay6_apply (r : Fin 512) (l : Fin 2048) : k0_pay6 (F := Ideal) (ix2 r l) = (((l : Nat) : ℝ) : EReal) := by
  have h : (BitVec.ofNat 32 (l : Nat)).toInt = (l : Nat) := by
    have := l.isLt
    rw [BitVec.toInt_eq_toNat_of_lt (by rw [BitVec.toNat_ofNat]; omega), BitVec.toNat_ofNat, Nat.mod_eq_of_lt (by omega)]
  pointwise [k0_pay6]
  show (((BitVec.ofNat 32 (l : Nat)).toInt : ℝ) : EReal) = _
  rw [h]
  norm_cast

/-- A bit is set exactly when the truth value it stands for is true. -/
theorem ofBool_eq_one (b : Bool) : BitVec.ofBool b = 1#1 ↔ b = true := by cases b <;> decide

/-- An index is marked exactly when it is the first minimum of its row. -/
theorem marked_apply (M : FVec Ideal S512x2048 .f32) (r : Fin 512) (l : Fin 2048) :
    marked M (ix2 r l) = 1#1 ↔ l = firstMin (row M r) := by
  have hrow : row (select (cmpf .oeq M (rowMin M)) (k0_pay6 (F := Ideal)) (broadcast S512x2048 (Scalar.ofBits .f32 0x45000000#32))) r
      = fun l : Fin 2048 => if row M r l = row M r (firstMin (row M r)) then (((l : Nat) : ℝ) : EReal) else (((2048 : Nat) : ℝ) : EReal) := by
    funext l
    unfold row
    rw [← ofBits_2048]
    pointwise [rowMin_apply, pay6_apply]
    rfl
  have hmin : rowMin (select (cmpf .oeq M (rowMin M)) (k0_pay6 (F := Ideal)) (broadcast S512x2048 (Scalar.ofBits .f32 0x45000000#32))) (ix2 r l)
      = (((firstMin (row M r) : Nat) : ℝ) : EReal) := by
    rw [rowMin_apply, ← fold_min_eq (row _ r), hrow, fold_min_position_eq]
  unfold marked
  rw [ValueIdx.cmpf_apply, hmin, pay6_apply, ← position_eq_iff]
  show BitVec.ofBool (decide _) = 1#1 ↔ _
  rw [ofBool_eq_one, decide_eq_true_iff]

/-- Raising the marked positions is the row's own step. -/
theorem row_masked (M : FVec Ideal S512x2048 .f32) (r : Fin 512) : row (masked M) r = mask (row M r) := by
  funext l
  show Scalar.select (marked M (ix2 r l)) (Ideal.ofBits .f32 0x7F800000#32) (M (ix2 r l)) = _
  unfold mask
  by_cases h : l = firstMin (row M r)
  · rw [Scalar.select_of_eq_one ((marked_apply M r l).mpr h), ofBits_top, h, Function.update_self]
  · rw [Scalar.select_of_ne_one (mt (marked_apply M r l).mp h), Function.update_of_ne h]
    rfl

/-- After `k` rounds each row is `k` steps on. -/
theorem row_masked_iterate (M : FVec Ideal S512x2048 .f32) (r : Fin 512) (k : Nat) :
    row (masked^[k] M) r = mask^[k] (row M r) := by
  induction k with
  | zero => rfl
  | succ k ih => rw [Function.iterate_succ_apply', Function.iterate_succ_apply', row_masked, ih]

/-- The masked sum over a row is the entry at the mark: every other term is zero. -/
theorem taken_apply (D M : FVec Ideal S512x2048 .f32) (r : Fin 512) :
    taken D M (ix2 r 0) = row D r (firstMin (row M r)) := by
  pointwise [taken]
  rw [Finset.sum_eq_single (firstMin (row M r))]
  · exact Scalar.select_of_eq_one ((marked_apply M r _).mpr rfl) ..
  · exact fun l _ hl => Scalar.select_of_ne_one (mt (marked_apply M r l).mp hl) ..
  · exact fun h => absurd (Finset.mem_univ _) h

end Cert.KernelIdeal.Rounds

end
-- ==== Proof.Repulsion.lean ====
/-
  THE REPULSION LOSS, as mathematics over the extended reals: what both programs are shown to compute. Each point of a cloud
  of 2048 points in space orders the cloud by an expanded squared distance, skips its nearest point (usually itself), and
  adds one decreasing term of the exact distance for each of the next five. A cloud's loss is the sum over its points divided
  by the number of terms.
-/
module

public import proofs.«01_k».proof.Proof.Nearest
public import Idealize.ShloMosaic.PureOps.Ideal

@[expose] public section

noncomputable section

namespace Cert.Repulsion

open Idealize.ShloMosaic Cert.Nearest

/-- The ordering distance of two points, multiplied out: `|x|² + (−2)(x·y) + |y|²`. -/
def ordDist (x y : Fin 3 → EReal) : EReal :=
  (∑ k, x k * x k) + Ideal.ofBits .f32 0xC0000000#32 * (∑ k, x k * y k) + ∑ k, y k * y k

/-- The exact squared distance of two points. -/
def sqDist (x y : Fin 3 → EReal) : EReal := ∑ k, (x k - y k) * (x k - y k)

/-- The distance behind a squared distance, kept away from zero. -/
def root (s : EReal) : EReal := Ideal.sqrt (max s (Ideal.ofBits .f32 0x2B8CBCCC#32))

/-- One neighbour's term, `(0.07 − d) · exp (−(d / 0.03)²)` at the distance `d`. -/
def term (s : EReal) : EReal :=
  (Ideal.ofBits .f32 0x3D8F5C29#32 - root s)
    * Ideal.exp (-(Ideal.div (root s) (Ideal.ofBits .f32 0x3CF5C28F#32) * Ideal.div (root s) (Ideal.ofBits .f32 0x3CF5C28F#32)))

/-- Point `i`'s neighbours in the order of their ordering distance: the `r`-th, counting from zero. -/
def neighbour (p : Fin 2048 → Fin 3 → EReal) (i : Fin 2048) (r : Nat) : Fin 2048 := pick (fun j => ordDist (p i) (p j)) r

/-- What point `i` adds to the loss: the terms of its neighbours one to five. -/
def pointLoss (p : Fin 2048 → Fin 3 → EReal) (i : Fin 2048) : EReal :=
  ∑ k : Fin 5, term (sqDist (p i) (p (neighbour p i (k + 1))))

/-- The cloud's loss. -/
def loss (p : Fin 2048 → Fin 3 → EReal) : EReal :=
  Ideal.div (∑ i, pointLoss p i) (Ideal.ofBits .f32 0x46200000#32)

/-- The squared distance of two points with real coordinates does not depend on their order. -/
theorem sqDist_comm (x y : Fin 3 → ℝ) : sqDist (fun k => (x k : EReal)) (fun k => (y k : EReal)) = sqDist (fun k => (y k : EReal)) fun k => (x k : EReal) := by
  unfold sqDist
  refine Finset.sum_congr rfl fun k _ => ?_
  simp only [← EReal.coe_sub, ← EReal.coe_mul]
  exact congrArg Real.toEReal (by ring)

/-- The constant −2. -/
theorem ofBits_neg_two : Ideal.ofBits .f32 0xC0000000#32 = ((-2 : ℝ) : EReal) := by
  simp [Ideal.ofBits, Ideal.ieee, -EReal.coe_mul, -EReal.coe_neg]; norm_num

/-- The ordering distance of two points with real coordinates is below +∞. -/
theorem ordDist_lt_top (x y : Fin 3 → ℝ) : ordDist (fun k => (x k : EReal)) (fun k => (y k : EReal)) < ⊤ := by
  have h : ordDist (fun k => (x k : EReal)) (fun k => (y k : EReal))
      = (((∑ k, x k * x k) + -2 * (∑ k, x k * y k) + ∑ k, y k * y k : ℝ) : EReal) := by
    unfold ordDist
    rw [ofBits_neg_two]
    simp only [Fin.sum_univ_three]
    norm_cast
  rw [h]
  exact EReal.coe_lt_top _

end Cert.Repulsion

end
-- ==== Proof.Block.lean ====
/-
  ONE BLOCK OF THE KERNEL: 512 points of a cloud against all its 2048 points. The body's stored value is the six rounds of
  `Rounds.lean` over the block's distances, and its entry at a point is that point's share of the loss.
-/
module

public import proofs.«01_k».proof.Proof.Rounds
public import proofs.«01_k».proof.Proof.Repulsion

@[expose] public section

set_option maxRecDepth 16384

noncomputable section

namespace Cert.KernelIdeal.Block

open Idealize.ShloMosaic Cert.KernelIdeal Cert.KernelIdeal.Gen Cert.KernelIdeal.Rounds Cert.Nearest Cert.Repulsion

/-- The terms of a column of squared distances, in the printed operations. -/
def terms (s : FVec Ideal S512x1 .f32) : FVec Ideal S512x1 .f32 :=
  have d : FVec Ideal S512x1 .f32 := sqrt (maximumf s (broadcast S512x1 (Scalar.ofBits .f32 0x2B8CBCCC#32)))
  have q : FVec Ideal S512x1 .f32 := divf d (broadcast S512x1 (Scalar.ofBits .f32 0x3CF5C28F#32))
  mulf (subf (broadcast S512x1 (Scalar.ofBits .f32 0x3D8F5C29#32)) d)
    (exp (subf (broadcast S512x1 (Scalar.ofBits .f32 0x00000000#32)) (mulf q q)))

/-- The column after `k` rounds past the first: the terms of the rounds one to `k` added up from zero. -/
def total (D M : FVec Ideal S512x2048 .f32) : Nat → FVec Ideal S512x1 .f32
  | 0 => broadcast S512x1 (Scalar.ofBits .f32 0x00000000#32)
  | k + 1 => addf (total D M k) (terms (taken D (masked^[k + 1] M)))

/-! The body's named values, one round after another, are those definitions. -/

theorem pay7_eq (M : FVec Ideal S512x2048 .f32) : k0_pay7 M = masked M := rfl
theorem pay8_eq (M : FVec Ideal S512x2048 .f32) : k0_pay8 M = marked (masked M) := rfl
theorem pay9_eq (D M : FVec Ideal S512x2048 .f32) :
    k0_pay9 M D = addf (broadcast S512x1 (Scalar.ofBits .f32 0x00000000#32)) (terms (taken D (masked M))) := rfl
theorem pay10_eq (M : FVec Ideal S512x2048 .f32) : k0_pay10 M = masked (masked M) := rfl
theorem pay12_eq (D M : FVec Ideal S512x2048 .f32) (a : FVec Ideal S512x1 .f32) :
    k0_pay12 D k0_pay6 a M = addf a (terms (taken D M)) := rfl
theorem pay13_eq (M : FVec Ideal S512x2048 .f32) : k0_pay13 k0_pay6 M = masked M := rfl
theorem pay14_eq (M : FVec Ideal S512x2048 .f32) : k0_pay14 k0_pay6 M = marked (masked M) := rfl
theorem pay17_eq (M : FVec Ideal S512x2048 .f32) : k0_pay17 k0_pay6 M (marked M) = marked (masked M) := rfl
theorem pay18_eq (D M : FVec Ideal S512x2048 .f32) (a : FVec Ideal S512x1 .f32) :
    k0_pay18 D k0_pay6 a (masked M) (marked (masked M)) (k0_pay15 D k0_pay6 M)
      = addf (addf a (terms (taken D (masked M)))) (terms (taken D (masked (masked M)))) := rfl
theorem pay19_eq (M : FVec Ideal S512x2048 .f32) : k0_pay19 k0_pay6 M (marked M) = masked (masked M) := rfl
theorem pay20_eq (M : FVec Ideal S512x2048 .f32) : k0_pay20 k0_pay6 M (marked M) = rowMin (masked (masked M)) := rfl
theorem pay1_eq (D M : FVec Ideal S512x2048 .f32) (a : FVec Ideal S512x1 .f32) :
    k0_pay1 D k0_pay6 a M (rowMin M) = shapeCast S1x512x1 (addf a (terms (taken D M))) shapeCasts_S512x1_S1x512x1 := rfl

/-- The body's stored value is the column after five rounds past the first, over the block's two distance arrays. -/
theorem stored_eq (x0 : Vec Ideal S1x512x3 .f32) (x1 : Vec Ideal S1x3x2048 .f32) :
    out0_2 (F := Ideal) x0 x1 = shapeCast S1x512x1 (total (k0_pay5 x0 x1) (k0_pay4 x0 x1) 5) shapeCasts_S512x1_S1x512x1 := by
  have hz : (![0, 0, 0] : Fin 3 → Nat) = fun _ => 0 := funext fun a => by fin_cases a <;> rfl
  unfold out0_2 k0_pay26 k0_pay25 k0_pay24 k0_pay23 k0_pay22 k0_pay21
  rw [View.canon_unit_zero hz, View.ld_unit_zero hz, View.ld_unit_zero hz, pay10_eq, pay13_eq, pay14_eq, pay9_eq, pay12_eq,
    pay18_eq, pay19_eq, pay20_eq, pay1_eq]
  simp only [total, Function.iterate_succ, Function.iterate_zero, Function.comp_apply, id_eq]

/-- A column of terms at a point is the term of its squared distance. -/
theorem terms_apply (s : FVec Ideal S512x1 .f32) (r : Fin 512) : terms s (ix2 r 0) = term (s (ix2 r 0)) := by
  unfold term root
  pointwise [terms]
  rw [zero_sub]

/-- The column at a point adds the terms of the row's choices from the second on. -/
theorem total_apply (D M : FVec Ideal S512x2048 .f32) (r : Fin 512) (k : Nat) :
    total D M k (ix2 r 0) = ∑ s : Fin k, term (row D r (pick (row M r) (s + 1))) := by
  induction k with
  | zero =>
    rw [Fin.sum_univ_zero]
    pointwise [total]
  | succ k ih =>
    rw [Fin.sum_univ_castSucc]
    show total D M k (ix2 r 0) + terms _ (ix2 r 0) = _
    rw [ih, terms_apply, taken_apply, row_masked_iterate]
    rfl

/-- The block's first distance array holds the ordering distances. -/
theorem pay4_apply (x0 : Vec Ideal S1x512x3 .f32) (x1 : Vec Ideal S1x3x2048 .f32) (r : Fin 512) (l : Fin 2048) :
    k0_pay4 x0 x1 (ix2 r l) = ordDist (fun k => x0 (ix3 0 r k)) (fun k => x1 (ix3 0 k l)) := by
  unfold ordDist
  pointwise [k0_pay4, k0_pay2, k0_pay3]
  simp only [Fin.sum_univ_three]

/-- Its second one holds the exact squared distances. -/
theorem pay5_apply (x0 : Vec Ideal S1x512x3 .f32) (x1 : Vec Ideal S1x3x2048 .f32) (r : Fin 512) (l : Fin 2048) :
    k0_pay5 x0 x1 (ix2 r l) = sqDist (fun k => x0 (ix3 0 r k)) (fun k => x1 (ix3 0 k l)) := by
  unfold sqDist
  pointwise [k0_pay5, k0_pay2, k0_pay3]
  simp only [Fin.sum_univ_three]

/-- The stored value at point `r` of the block: the five terms of its row of distances to the cloud. -/
theorem out_apply (x0 : Vec Ideal S1x512x3 .f32) (x1 : Vec Ideal S1x3x2048 .f32) (r : Fin 512) :
    out0_2 (F := Ideal) x0 x1 (ix3 0 r 0)
      = ∑ s : Fin 5, term (sqDist (fun k => x0 (ix3 0 r k)) fun k =>
          x1 (ix3 0 k (pick (fun l => ordDist (fun k => x0 (ix3 0 r k)) fun k => x1 (ix3 0 k l)) (s + 1)))) := by
  have hM : row (k0_pay4 x0 x1) r = fun l => ordDist (fun k => x0 (ix3 0 r k)) fun k => x1 (ix3 0 k l) :=
    funext fun l => pay4_apply x0 x1 r l
  have h : out0_2 (F := Ideal) x0 x1 (ix3 0 r 0) = total (k0_pay5 x0 x1) (k0_pay4 x0 x1) 5 (ix2 r 0) := by
    rw [stored_eq]
    pointwise
  rw [h, total_apply, hM]
  exact Finset.sum_congr rfl fun s _ => congrArg term (pay5_apply x0 x1 r _)

end Cert.KernelIdeal.Block

end
-- ==== Proof.Array.lean ====
/-
  THE KERNEL'S RESULT. Each grid point writes back one block of 512 points, and the blocks fill the (16, 2048, 1) array, so the
  array ends holding every point's share of its cloud's loss; the host operations after the region add a cloud's shares up
  and divide.
-/
module

public import proofs.«01_k».proof.Proof.Block
public import Idealize.ShloMosaic.Lib.Pipeline.Value
public import Idealize.ShloMosaic.Lib.StableHlo.Run

@[expose] public section

set_option maxRecDepth 16384

noncomputable section

namespace Cert.KernelIdeal.Array

open Idealize.ShloMosaic Idealize.ShloMosaic.TcCoe Idealize.SL.Sem
open Cert.KernelIdeal Cert.KernelIdeal.Gen Cert.Nearest Cert.Repulsion

variable (m : (ℓ : Loc nD τ sig) → Buf (Elt Ideal) ℓ) (ρ : Dev nD → PrngReg)

/-- Cloud `b` of device `c`'s argument. -/
def cloud (x : FVec Ideal S16x2048x3 .f32) (b : Fin 16) : Fin 2048 → Fin 3 → EReal := fun i k => x (ix3 b i k)

/-- Every cloud's loss. -/
def losses (x : FVec Ideal S16x2048x3 .f32) : FVec Ideal S16 .f32 := fun b => loss (cloud x (b 0))

/-- The argument array. -/
abbrev arg (c : Dev nD) : FVec Ideal S16x2048x3 .f32 := m ((c : Thread nD τ).loc main_arg0)

/-- What the region's result array is shown to hold: each point's share of the loss. -/
def shares (c : Dev nD) : Buf (Elt Ideal) ((c : Thread nD τ).loc main_call0_v1) :=
  fun i => pointLoss (cloud (arg m c) (i 0)) (i 1)

/-- The three windows' blocks at a grid point: cloud `t / 4`, and of its points the quarter `t % 4` (window 1: all). -/
theorem index_eq : ∀ t : Fin grid0.N,
    (win0_0.index t 0 = t.val / 4 ∧ win0_0.index t 1 = t.val % 4 ∧ win0_0.index t 2 = 0)
    ∧ (win0_1.index t 0 = t.val / 4 ∧ win0_1.index t 1 = 0 ∧ win0_1.index t 2 = 0)
    ∧ (win0_2.index t 0 = t.val / 4 ∧ win0_2.index t 1 = t.val % 4 ∧ win0_2.index t 2 = 0) := by decide +kernel

/-- The second operand is the argument with its points laid along the last axis. -/
theorem V_transposed (c : Dev nD) :
    V m c main_call0_v0 = transpose S16x3x2048 [0, 2, 1] (arg m c) transposes_S16x2048x3_S16x3x2048_0_2_1 := by
  unfold V V0
  rw [List.flatten_singleton]
  unfold hostOps0
  after_results_simp
  rfl

theorem cloud_lt (t : Fin cfg0.N) : t.val / 4 < 16 := by have := t.isLt; have : cfg0.N = 64 := N_0; omega
theorem point_lt (t : Fin cfg0.N) (r : Fin 512) : t.val % 4 * 512 + r.val < 2048 := by have := r.isLt; omega

theorem block0_apply (c : Dev nD) (t : Fin cfg0.N) (r : Fin 512) (k : Fin 3) :
    iblk m c 0 t (ix3 0 r k) = cloud (arg m c) ⟨t.val / 4, cloud_lt t⟩ ⟨t.val % 4 * 512 + r.val, point_lt t r⟩ k := by
  have e := (index_eq t).1
  show V m c main_arg0 ((win0_0.rect t).emb (ix3 0 r k)) = _
  rw [V_main_arg0]
  refine congrArg (arg m c) (funext fun a => Fin.ext ?_)
  match a with
  | ⟨0, _⟩ => show win0_0.index t 0 * 1 + 1 * 0 = t.val / 4; omega
  | ⟨1, _⟩ => show win0_0.index t 1 * 512 + 1 * r.val = t.val % 4 * 512 + r.val; omega
  | ⟨2, _⟩ => show win0_0.index t 2 * 3 + 1 * k.val = k.val; omega

theorem block1_apply (c : Dev nD) (t : Fin cfg0.N) (k : Fin 3) (l : Fin 2048) :
    iblk m c 1 t (ix3 0 k l) = cloud (arg m c) ⟨t.val / 4, cloud_lt t⟩ l k := by
  have e := (index_eq t).2.1
  show V m c main_call0_v0 ((win0_1.rect t).emb (ix3 0 k l)) = _
  rw [V_transposed]
  have h : (win0_1.rect t).emb (ix3 0 k l) = (ix3 ⟨t.val / 4, cloud_lt t⟩ k l : S16x3x2048.Idx) := by
    refine funext fun a => Fin.ext ?_
    match a with
    | ⟨0, _⟩ => show win0_1.index t 0 * 1 + 1 * 0 = t.val / 4; omega
    | ⟨1, _⟩ => show win0_1.index t 1 * 3 + 1 * k.val = k.val; omega
    | ⟨2, _⟩ => show win0_1.index t 2 * 2048 + 1 * l.val = l.val; omega
  rw [h]
  pointwise [cloud]

/-- What point `t` writes back is block `t` of the shares. -/
theorem flushed_eq (c : Dev nD) (t : Fin cfg0.N) :
    (dats m 0 c).flushed 2 t = (win0_2.blk t).view.read (Elt Ideal) (shares m c) := by
  show (cfg0.win 2).cut (grid0.coords t) ((dats m 0 c).after 2 t) = _
  rw [after0_2]
  funext x
  have e := (index_eq t).2.2
  obtain ⟨r, rfl⟩ : ∃ r : Fin 512, x = (ix3 0 r 0 : S1x512x1.Idx) := by
    refine ⟨x 1, funext fun a => Fin.ext ?_⟩
    match a with
    | ⟨0, _⟩ => have : (x 0).val < 1 := (x 0).isLt; show (x 0).val = 0; omega
    | ⟨1, _⟩ => rfl
    | ⟨2, _⟩ => have : (x 2).val < 1 := (x 2).isLt; show (x 2).val = 0; omega
  have h : (win0_2.rect t).emb (ix3 0 r 0) = (ix3 ⟨t.val / 4, cloud_lt t⟩ ⟨t.val % 4 * 512 + r.val, point_lt t r⟩ 0 : S16x2048x1.Idx) := by
    refine funext fun a => Fin.ext ?_
    match a with
    | ⟨0, _⟩ => show win0_2.index t 0 * 1 + 1 * 0 = t.val / 4; omega
    | ⟨1, _⟩ => show win0_2.index t 1 * 512 + 1 * r.val = t.val % 4 * 512 + r.val; omega
    | ⟨2, _⟩ => show win0_2.index t 2 * 1 + 1 * 0 = 0; omega
  show out0_2 (iblk m c 0 t) (iblk m c 1 t) (ix3 0 r 0) = shares m c ((win0_2.rect t).emb (ix3 0 r 0))
  rw [h, Block.out_apply]
  simp only [block0_apply, block1_apply]
  rfl

/-- An index of the result array is in point `t`'s block when its cloud and its quarter are the point's. -/
theorem mem_blk (t : Fin cfg0.N) (i : S16x2048x1.Idx) (h0 : t.val / 4 = (i 0).val) (h1 : t.val % 4 = (i 1).val / 512) :
    i ∈ ((cfg0.win 2).blk t).view.set := by
  show i ∈ ((View.whole main_call0_v1).slice (win0_2.rect t)).set
  rw [View.set_slice_whole, Rect.mem_set_unit]
  have e := (index_eq t).2.2
  have i2 : (i 2).val < 1 := (i 2).isLt
  intro a
  match a with
  | ⟨0, _⟩ => show win0_2.index t 0 * 1 ≤ (i 0).val ∧ (i 0).val < win0_2.index t 0 * 1 + 1; omega
  | ⟨1, _⟩ => show win0_2.index t 1 * 512 ≤ (i 1).val ∧ (i 1).val < win0_2.index t 1 * 512 + 512; omega
  | ⟨2, _⟩ => show win0_2.index t 2 * 1 ≤ (i 2).val ∧ (i 2).val < win0_2.index t 2 * 1 + 1; omega

/-- Every index of the result array is in some point's block. -/
theorem cover (i : S16x2048x1.Idx) :
    ∃ t : Fin cfg0.N, (cfg0.win 2).flush t = true ∧ i ∈ ((cfg0.win 2).blk t).view.set := by
  have h0 : (i 0).val < 16 := (i 0).isLt
  have h1 : (i 1).val < 2048 := (i 1).isLt
  have hN : cfg0.N = 64 := N_0
  refine ⟨⟨(i 0).val * 4 + (i 1).val / 512, by omega⟩, flush0_2 _, mem_blk _ i ?_ ?_⟩ <;> dsimp only <;> omega

/-- The region's result array ends holding the shares. -/
theorem final_shares (c : Dev nD) : (dats m 0 c).arrAt 2 cfg0.N = shares m c :=
  (dats m 0 c).arrAt_eq_of_cover 2 (shares m c) (fun t _ => flushed_eq m c t) cover

/-- The host operations after the region, on an array that holds every point's share: at cloud `b` the cloud's loss. -/
theorem tail_apply (x : FVec Ideal S16x2048x3 .f32) (y : FVec Ideal S16x2048x1 .f32)
    (h : ∀ b i, y (ix3 b i 0) = pointLoss (cloud x b) i) (b : Fin 16) :
    (Host.divf (Host.reduceAdd (shapeCast S16x2048 y shapeCasts_S16x2048x1_S16x2048)
        (constant S_ .f32 0x00000000#32) reducesTo_S16x2048_S16_d1 h_S_)
      (broadcastInDim S16 ![] bcast_S_S16 (constant S_ .f32 0x46200000#32)) : FVec Ideal S16 .f32) (ix1 b)
      = loss (cloud x b) := by
  pointwise [loss, h]

/-- After the region and the host operations the result buffer holds every cloud's loss. -/
theorem tail_eq (c : Dev nD) :
    (Pipeline.afterTail₀ cfgs (dats m) 0 (V0 m) [hostOps1] c main_v0 : FVec Ideal S16 .f32)
      = losses (arg m c) := by
  unfold Pipeline.afterTail₀
  have hw : Pipeline.withArrays (cfgs 0).spec c (V0 m c) (fun w => (dats m 0 c).arrAt w (cfgs 0).N)
      (Proc.devRef .tc main_call0_v1) = shares m c :=
    (Pipeline.withArrays_arr spec0 (by decide) c (V0 m c) _ 2).trans (final_shares m c)
  generalize Pipeline.withArrays (cfgs 0).spec c (V0 m c) (fun w => (dats m 0 c).arrAt w (cfgs 0).N) = A at hw ⊢
  rw [List.flatten_singleton]
  unfold hostOps1
  after_results_simp
  rw [hw]
  funext b
  rw [eq_ix1 b]
  exact tail_apply (arg m c) (shares m c) (fun _ _ => rfl) (b 0)

/-- The run: the result buffer ends at every cloud's loss, the argument as it was. -/
theorem run : θ_run defs (onTc (τ := τ) (main (F := Ideal))) ⟨m, fun _ => 0, ρ⟩ (fun r => ∀ c : Dev nD,
    (r.2.mem ((c : Thread nD τ).loc main_v0) : FVec Ideal S16 .f32) = losses (arg m c)
    ∧ r.2.mem ((c : Thread nD τ).loc main_arg0) = m ((c : Thread nD τ).loc main_arg0)) :=
  (θ_run defs _ _).mono (fun _ h c => ⟨((h c).2 main_v0 (by decide)).trans (tail_eq m c),
    ((h c).1 0).trans (((dats m 0 c).arrAt_in 0 rfl _).trans ((A_eq m c 0).trans (V_main_arg0 m c)))⟩) (run_main m ρ)

end Cert.KernelIdeal.Array

end
-- ==== Proof.Search.lean ====
/-
  THE REFERENCE'S NEIGHBOUR SEARCH. The reference sorts every row of the negated ordering distances, largest first and stably,
  and keeps the first six positions: under finite distances these are the row's picks zero to five. It then reads the
  neighbours' coordinates at the positions kept.
-/
module

public import proofs.«01_k».proof.Proof.Repulsion
public import proofs.«01_k».proof.ReferenceIdeal
public import proofs.«01_k».proof.Proof.Gen.ReferenceIdeal
public import Idealize.ShloMosaic.Lib.Pointwise
public import Idealize.ShloMosaic.Lib.StableHlo.Predicate

@[expose] public section

set_option maxRecDepth 16384

noncomputable section

namespace Cert.ReferenceIdeal.Search

open Idealize.ShloMosaic Idealize.ShloMosaic.TcCoe Idealize.SL.Sem
open Cert.ReferenceIdeal Cert.ReferenceIdeal.Gen Cert.Nearest Cert.Repulsion

variable (x : FVec Ideal S16x2048x3 .f32)

/-- The points' squared lengths. -/
def squares : FVec Ideal S16x2048 .f32 :=
  Host.reduceAdd (mulf x x) (constant S_ .f32 0x00000000#32) reducesTo_S16x2048x3_S16x2048_d2 h_S_

/-- The ordering distances of all pairs of a cloud's points. -/
def distances : FVec Ideal S16x2048x2048 .f32 :=
  addf (addf (broadcastInDim S16x2048x2048 ![0, 1, 2] bcast_S16x2048x1_S16x2048x2048_0_1_2
        (broadcastInDim S16x2048x1 ![0, 1] bcast_S16x2048_S16x2048x1_0_1 (squares x)))
      (mulf (broadcastInDim S16x2048x2048 ![] bcast_S_S16x2048x2048 (constant S_ .f32 0xC0000000#32))
        (Host.dotGeneral dot_S16x2048x3_S16x2048x3_S16x2048x2048_2_2_1_1_0_0 none x x)))
    (broadcastInDim S16x2048x2048 ![0, 1, 2] bcast_S16x1x2048_S16x2048x2048_0_1_2
      (transpose S16x1x2048 [0, 2, 1] (broadcastInDim S16x2048x1 ![0, 1] bcast_S16x2048_S16x2048x1_0_1 (squares x))
        transposes_S16x2048x1_S16x1x2048_0_2_1))

theorem squares_apply (b : Fin 16) (i : Fin 2048) : squares x (ix2 b i) = ∑ k : Fin 3, x (ix3 b i k) * x (ix3 b i k) := by
  pointwise [squares]

theorem distances_apply (b : Fin 16) (i j : Fin 2048) :
    distances x (ix3 b i j) = ordDist (fun k => x (ix3 b i k)) fun k => x (ix3 b j k) := by
  pointwise [distances, squares, ordDist]

/-- The positions of the six largest negated distances of every row, and of these the last five. -/
def order : IVec S16x2048x5 32 :=
  extractStridedSlice S16x2048x5 ![0, 0, 1]
    ((Host.topK S16x2048x6 2 (FloatOps.cmpfTotal .gt) (Host.negf (distances x)) sliceFits_S16x2048x2048_S16x2048x6).2)
    slices_S16x2048x6_S16x2048x5_0_0_1

/-- Moving along the last axis replaces the last coordinate. -/
theorem along_last (b : Fin 16) (i j k : Fin 2048) :
    Shape.Idx.along (s := S16x2048x2048) (ix3 b i j) 2 k = ix3 b i k := by
  funext a
  match a with
  | ⟨0, _⟩ => rfl
  | ⟨1, _⟩ => rfl
  | ⟨2, _⟩ => rfl

/-- Entry `s` of the order is the row's pick `s + 1`, as a word. -/
theorem order_apply (b : Fin 16) (i : Fin 2048)
    (hM : ∀ j : Fin 2048, ordDist (fun k => x (ix3 b i k)) (fun k => x (ix3 b j k)) < ⊤) (s : Fin 5) :
    order x (ix3 b i s)
      = BitVec.ofNat 32 (pick (fun j : Fin 2048 => ordDist (fun k => x (ix3 b i k)) fun k => x (ix3 b j k)) (s + 1)).val := by
  pointwise [order, Host.topK, Host.sort2]
  simp only [along_last, distances_apply]
  have hp := sortedFrom_eq_pick (n := 2048) hM (k := 6) (by decide) ⟨1 + s.val, by omega⟩
    (fun k k' => FloatOps.cmpfTotal (F := Ideal) (φ := .f32) .gt (-ordDist (fun c => x (ix3 b i c)) fun c => x (ix3 b k c))
      (-ordDist (fun c => x (ix3 b i c)) fun c => x (ix3 b k' c)) == 1#1)
    (fun p q => by
      rw [beq_iff_eq]
      show BitVec.ofBool (decide (-_ > -_)) = 1#1 ↔ _
      rw [StableHlo.Predicate.ofBool_eq_one_iff, decide_eq_true_eq, gt_iff_lt, EReal.neg_lt_neg_iff])
  rw [show s.val + 1 = 1 + s.val from Nat.add_comm _ _]
  exact congrArg (fun v : Fin 2048 => BitVec.ofNat 32 v.val) hp

/-- The search's index adjustment for negative positions, then the read of the neighbours' coordinates. -/
def gathered (o : IVec S16x2048x5 32) : FVec Ideal S16x2048x5x3 .f32 :=
  Host.gather gather_S16x2048x3_S16x2048x5x1_S16x2048x5x3_3_1_0_0_1_3_113 x
    (broadcastInDim S16x2048x5x1 ![0, 1, 2] bcast_S16x2048x5_S16x2048x5x1_0_1_2
      (select (cmpi .slt o (broadcastInDim S16x2048x5 ![] bcast_S_S16x2048x5 (constantI S_ 32 0#32)))
        (addi o (broadcastInDim S16x2048x5 ![] bcast_S_S16x2048x5 (constantI S_ 32 2048#32))) o))

/-- The gather's dimension numbers: clouds are a batch axis, the position read names axis 1, the coordinates are kept whole. -/
abbrev gatherDims : GatherDims S16x2048x3 S16x2048x5x1 S16x2048x5x3 := gather_S16x2048x3_S16x2048x5x1_S16x2048x5x3_3_1_0_0_1_3_113

/-- Equal axes have equal coordinates. -/
theorem val_of_axis_eq {t : Shape} (j : t.Idx) {a a' : Fin t.rank} (h : a = a') : (j a).val = (j a').val := by rw [h]

theorem gather_apply (idx : IVec S16x2048x5x1 32) (b : Fin 16) (i : Fin 2048) (s : Fin 5) (k : Fin 3) :
    Host.gather gatherDims x idx (ix4 b i s k)
      = x (ix3 b ⟨min (idx (ix4 b i s 0)).toInt.toNat 2047, by omega⟩ k) := by
  have hidx : gatherDims.siIdx (ix4 b i s k) ⟨0, by decide⟩ = (ix4 b i s 0 : S16x2048x5x1.Idx) := by
    funext a
    refine Fin.ext ?_
    match a with
    | ⟨0, _⟩ => exact val_of_axis_eq (ix4 b i s k : S16x2048x5x3.Idx) (a' := 0) (by decide +revert)
    | ⟨1, _⟩ => exact val_of_axis_eq (ix4 b i s k : S16x2048x5x3.Idx) (a' := 1) (by decide +revert)
    | ⟨2, _⟩ => exact val_of_axis_eq (ix4 b i s k : S16x2048x5x3.Idx) (a' := 2) (by decide +revert)
    | ⟨3, _⟩ => rfl
  unfold Host.gather
  refine congrArg x (funext fun a => Fin.ext ?_)
  show gatherDims.start _ _ _ + gatherDims.batchCoord _ _ + gatherDims.offCoord _ _ = _
  match a with
  | ⟨0, _⟩ =>
    have h0 : gatherDims.start (ix4 b i s k) idx 0 = 0 := dif_neg (by decide)
    have h1 : gatherDims.batchCoord (ix4 b i s k) 0 = b.val := by
      refine (dif_pos (by decide)).trans ?_
      exact val_of_axis_eq (ix4 b i s k : S16x2048x5x3.Idx) (a' := 0) (by decide)
    have h2 : gatherDims.offCoord (ix4 b i s k) 0 = 0 := gatherDims.offCoord_eq_zero _ _ (by decide)
    show gatherDims.start _ _ 0 + gatherDims.batchCoord _ 0 + gatherDims.offCoord _ 0 = b.val
    omega
  | ⟨1, _⟩ =>
    have h0 : gatherDims.start (ix4 b i s k) idx 1 = min (idx (ix4 b i s 0)).toInt.toNat 2047 := by
      refine (dif_pos (by decide)).trans ?_
      rw [← hidx]
      rfl
    have h1 : gatherDims.batchCoord (ix4 b i s k) 1 = 0 := gatherDims.batchCoord_eq_zero _ _ (by decide)
    have h2 : gatherDims.offCoord (ix4 b i s k) 1 = 0 := gatherDims.offCoord_eq_zero _ _ (by decide)
    show gatherDims.start _ _ 1 + gatherDims.batchCoord _ 1 + gatherDims.offCoord _ 1 = min (idx (ix4 b i s 0)).toInt.toNat 2047
    omega
  | ⟨2, _⟩ =>
    have h0 : gatherDims.start (ix4 b i s k) idx 2 = 0 := dif_neg (by decide)
    have h1 : gatherDims.batchCoord (ix4 b i s k) 2 = 0 := gatherDims.batchCoord_eq_zero _ _ (by decide)
    have h2 : gatherDims.offCoord (ix4 b i s k) 2 = k.val := by
      refine (dif_pos (by decide)).trans ?_
      exact val_of_axis_eq (ix4 b i s k : S16x2048x5x3.Idx) (a' := 3) (by decide)
    show gatherDims.start _ _ 2 + gatherDims.batchCoord _ 2 + gatherDims.offCoord _ 2 = k.val
    omega

/-- A position below 2048, as a word, is not negative and is read unchanged. -/
theorem adjusted_eq (p : Fin 2048) :
    min (Scalar.select (IntOp.cmpi .slt (BitVec.ofNat 32 p.val) 0#32) (IntOp.addi (BitVec.ofNat 32 p.val) 2048#32)
      (BitVec.ofNat 32 p.val)).toInt.toNat 2047 = p.val := by
  have hp := p.isLt
  have hi : (BitVec.ofNat 32 p.val).toInt = p.val := StableHlo.Predicate.toInt_ofNat_small _ (by omega)
  have hn : IntOp.cmpi .slt (BitVec.ofNat 32 p.val) 0#32 ≠ 1#1 := by
    show BitVec.ofBool ((BitVec.ofNat 32 p.val).slt 0#32) ≠ 1#1
    rw [Ne, StableHlo.Predicate.ofBool_eq_one_iff, BitVec.slt_iff_toInt_lt, hi, BitVec.toInt_zero]
    omega
  rw [Scalar.select_of_ne_one hn, hi]
  omega

/-- The neighbours' coordinates: a row's pick `s + 1` is a position below 2048, so the adjustment and the clamp leave it. -/
theorem gathered_apply (b : Fin 16) (i : Fin 2048)
    (hM : ∀ j : Fin 2048, ordDist (fun k => x (ix3 b i k)) (fun k => x (ix3 b j k)) < ⊤) (s : Fin 5) (k : Fin 3) :
    gathered x (order x) (ix4 b i s k) = x (ix3 b (neighbour (fun j k => x (ix3 b j k)) i (s + 1)) k) := by
  unfold gathered
  rw [gather_apply]
  refine congrArg (fun v => x (ix3 b v k)) (Fin.ext ?_)
  show min (BitVec.toInt _).toNat 2047 = _
  pointwise [order_apply x b i hM]
  exact adjusted_eq _

end Cert.ReferenceIdeal.Search

end
-- ==== Proof.Reference.lean ====
/-
  THE REFERENCE'S RESULT. Where every coordinate is a real number, the reference's composed value is every cloud's loss.
-/
module

public import proofs.«01_k».proof.Proof.Search
public import proofs.«01_k».proof.Proof.Gen.ReferenceIdeal.Run

@[expose] public section

set_option maxRecDepth 16384

noncomputable section

namespace Cert.ReferenceIdeal.Result

open Idealize.ShloMosaic Idealize.ShloMosaic.TcCoe Idealize.SL.Sem
open Cert.ReferenceIdeal Cert.ReferenceIdeal.Gen Cert.Nearest Cert.Repulsion Cert.ReferenceIdeal.Search

variable (x : FVec Ideal S16x2048x3 .f32)

/-- The differences of every point's neighbours to the point. -/
def differences : FVec Ideal S16x2048x5x3 .f32 :=
  subf (gathered x (order x)) (broadcastInDim S16x2048x5x3 ![0, 1, 2, 3] bcast_S16x2048x1x3_S16x2048x5x3_0_1_2_3
    (broadcastInDim S16x2048x1x3 ![0, 1, 3] bcast_S16x2048x3_S16x2048x1x3_0_1_3 x))

/-- The neighbours' distances, kept away from zero. -/
def roots : FVec Ideal S16x2048x5 .f32 :=
  Host.sqrt (maximumf (Host.reduceAdd (mulf (differences x) (differences x)) (constant S_ .f32 0x00000000#32)
      reducesTo_S16x2048x5x3_S16x2048x5_d3 h_S_) (broadcastInDim S16x2048x5 ![] bcast_S_S16x2048x5 (constant S_ .f32 0x2B8CBCCC#32)))

/-- The distances over the width. -/
def scaled : FVec Ideal S16x2048x5 .f32 :=
  Host.divf (roots x) (broadcastInDim S16x2048x5 ![] bcast_S_S16x2048x5 (constant S_ .f32 0x3CF5C28F#32))

/-- The neighbours' terms. -/
def terms : FVec Ideal S16x2048x5 .f32 :=
  mulf (subf (broadcastInDim S16x2048x5 ![] bcast_S_S16x2048x5 (constant S_ .f32 0x3D8F5C29#32)) (roots x))
    (Host.exp (Host.negf (mulf (scaled x) (scaled x))))

/-- The means. -/
def means : FVec Ideal S16 .f32 :=
  Host.divf (Host.reduceAdd (terms x) (constant S_ .f32 0x00000000#32) reducesTo_S16x2048x5_S16_d1_2 h_S_)
    (broadcastInDim S16 ![] bcast_S_S16 (constant S_ .f32 0x46200000#32))

/-- The reference's composed value is the means. -/
theorem res_eq (m : (ℓ : Loc nD τ sig) → Buf (Elt Ideal) ℓ) (c : Dev nD) :
    Value.res_out0 m c = means (m ((c : Thread nD τ).loc main_arg0)) := by
  unfold Value.res_out0 Value.res_main_v38 means terms scaled roots differences gathered order distances squares
  rfl

/-- Every coordinate is a real number. -/
def AllReal : Prop := ∃ y : S16x2048x3.Idx → ℝ, x = fun i => (y i : EReal)

variable {x}

theorem differences_apply (hx : AllReal x) (b : Fin 16) (i : Fin 2048) (s : Fin 5) (k : Fin 3) :
    differences x (ix4 b i s k) = x (ix3 b (neighbour (fun j k => x (ix3 b j k)) i (s + 1)) k) - x (ix3 b i k) := by
  have hM : ∀ j : Fin 2048, ordDist (fun k => x (ix3 b i k)) (fun k => x (ix3 b j k)) < ⊤ := by
    obtain ⟨y, rfl⟩ := hx
    exact fun j => ordDist_lt_top (fun k => y (ix3 b i k)) fun k => y (ix3 b j k)
  pointwise [differences, gathered_apply x b i hM]

theorem squared_apply (hx : AllReal x) (b : Fin 16) (i : Fin 2048) (s : Fin 5) :
    ∑ k : Fin 3, differences x (ix4 b i s k) * differences x (ix4 b i s k)
      = sqDist (fun k => x (ix3 b i k)) fun k => x (ix3 b (neighbour (fun j k => x (ix3 b j k)) i (s + 1)) k) := by
  simp only [differences_apply hx]
  obtain ⟨y, rfl⟩ := hx
  exact sqDist_comm (fun k => y (ix3 b _ k)) fun k => y (ix3 b i k)

theorem roots_apply (hx : AllReal x) (b : Fin 16) (i : Fin 2048) (s : Fin 5) :
    roots x (ix3 b i s)
      = root (sqDist (fun k => x (ix3 b i k)) fun k => x (ix3 b (neighbour (fun j k => x (ix3 b j k)) i (s + 1)) k)) := by
  rw [← squared_apply hx]
  pointwise [roots, root]

theorem terms_apply (hx : AllReal x) (b : Fin 16) (i : Fin 2048) (s : Fin 5) :
    terms x (ix3 b i s)
      = term (sqDist (fun k => x (ix3 b i k)) fun k => x (ix3 b (neighbour (fun j k => x (ix3 b j k)) i (s + 1)) k)) := by
  pointwise [terms, scaled, roots_apply hx, term]

/-- The means are the losses. -/
theorem means_apply (hx : AllReal x) (b : Fin 16) : means x (ix1 b) = loss fun i k => x (ix3 b i k) := by
  pointwise [means, terms_apply hx, loss, pointLoss]

end Cert.ReferenceIdeal.Result

end
-- ==== Proof.Finite.lean ====
/-
  THE PRECONDITION READ. Where the precondition's function is true, every coordinate is a real number.
-/
module

public import proofs.«01_k».proof.Pre_finite
public import proofs.«01_k».proof.Proof.Gen.Pre_finite
public import proofs.«01_k».proof.Proof.Reference
public import Idealize.ShloMosaic.Lib.ReduceAll
public import Idealize.ShloMosaic.Lib.Pointwise

@[expose] public section

noncomputable section

namespace Cert.Finite

open Idealize.ShloMosaic

/-- The pattern of +∞ reads as +∞. -/
theorem ofBits_inf : Ideal.ofBits .f32 0x7F800000#32 = ⊤ := by simp [Ideal.ofBits, Ideal.ieee]

/-- A number whose magnitude is below +∞ is real. -/
theorem coe_toReal_of_abs_lt (a : EReal) (h : max a (-a) < ⊤) : ((a.toReal : ℝ) : EReal) = a :=
  EReal.coe_toReal (ne_of_lt (lt_of_le_of_lt (le_max_left _ _) h))
    fun e => by rw [e] at h; exact absurd h (by simp)

theorem allReal (x : FVec Ideal Cert.ReferenceIdeal.S16x2048x3 .f32)
    (h : Cert.Pre_finite.fn (F := Ideal) x = fun _ => 1#1) : Cert.ReferenceIdeal.Result.AllReal x := by
  haveI : Subsingleton Cert.Pre_finite.S_.Idx := ⟨fun a b => funext fun d => d.elim0⟩
  refine ⟨fun i => (x i).toReal, funext fun i => (coe_toReal_of_abs_lt _ ?_).symm⟩
  have e := Host.reduce_andi_all _ _ _ _ (fun d => d.elim0) (congrFun h _) i
  rw [← ofBits_inf]
  have e' : BitVec.ofBool (decide (max (x i) (-(x i)) < Ideal.ofBits .f32 0x7F800000#32)) = 1#1 := e
  rwa [StableHlo.Predicate.ofBool_eq_one_iff, decide_eq_true_eq] at e'

end Cert.Finite

end
-- ==== Proof.lean ====
/-
  THE CERTIFICATE. The kernel, its idealization and the reference run to the end, leave their argument as it was and every
  semaphore counter at zero; and on finite clouds the idealized kernel and the reference return the same losses.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_finite
public import proofs.«01_k».proof.Proof.Array
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.TcCoe

/-- The reference ends with its argument unchanged and every counter at zero. -/
theorem quiescent_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite clouds the reference's value is the losses the kernel leaves. -/
theorem reference_eq (x : FVec Ideal Cert.ReferenceIdeal.S16x2048x3 .f32)
    (h : Cert.Pre_finite.fn (F := Ideal) x = fun _ => 1#1) :
    Cert.ReferenceIdeal.Result.means x = Cert.KernelIdeal.Array.losses x := by
  funext b
  rw [eq_ix1 b]
  exact Cert.ReferenceIdeal.Result.means_apply (Cert.Finite.allReal x h) (b 0)

/-- The kernel and the reference agree on finite clouds. -/
theorem agree : Cert.algebraic_KernelIdeal_ReferenceIdeal_pre_finite := by
  intro m g m' g' hpre hagree
  refine ⟨fun c => Cert.KernelIdeal.Array.losses (Cert.KernelIdeal.Array.arg m c), Cert.KernelIdeal.Array.run m g, ?_⟩
  refine (θ_run Cert.ReferenceIdeal.defs _ _).mono (fun r h c => ⟨(h c).1.trans ?_, (h c).2⟩)
    (Cert.ReferenceIdeal.Value.run (F := Ideal) m' g')
  refine (Cert.ReferenceIdeal.Result.res_eq m' c).trans ?_
  rw [hagree c]
  exact reference_eq (Cert.KernelIdeal.Array.arg m c) (hpre c)

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    quiescent_reference, fun m ρ _ => quiescent_reference m ρ trivial, trivial, agree⟩

end Cert.Proof

end
